-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x8x64 : Shape := ⟨4, ![8, 1024, 8, 64]⟩
abbrev S8x1024x8x1024 : Shape := ⟨4, ![8, 1024, 8, 1024]⟩
abbrev S63x32 : Shape := ⟨2, ![63, 32]⟩
abbrev S8x32x32x8x64 : Shape := ⟨5, ![8, 32, 32, 8, 64]⟩
abbrev S_ : Shape := ⟨0, ![]⟩
abbrev S64x32 : Shape := ⟨2, ![64, 32]⟩
abbrev S1 : Shape := ⟨1, ![1]⟩
abbrev S8x32x256x128 : Shape := ⟨4, ![8, 32, 256, 128]⟩
abbrev S1024 : Shape := ⟨1, ![1024]⟩
abbrev S128x1024 : Shape := ⟨2, ![128, 1024]⟩
abbrev S1x1024 : Shape := ⟨2, ![1, 1024]⟩
abbrev S32 : Shape := ⟨1, ![32]⟩
abbrev S32x1 : Shape := ⟨2, ![32, 1]⟩
abbrev S32x1024 : Shape := ⟨2, ![32, 1024]⟩
abbrev S8x4x32x8x64 : Shape := ⟨5, ![8, 4, 32, 8, 64]⟩
abbrev S8x32x4x8x64 : Shape := ⟨5, ![8, 32, 4, 8, 64]⟩
abbrev S8x4x256x128 : Shape := ⟨4, ![8, 4, 256, 128]⟩
abbrev S8x32x32x128 : Shape := ⟨4, ![8, 32, 32, 128]⟩
abbrev S32x32 : Shape := ⟨2, ![32, 32]⟩
abbrev S32x64 : Shape := ⟨2, ![32, 64]⟩
abbrev S64x128 : Shape := ⟨2, ![64, 128]⟩
abbrev S8x1x32x8x64 : Shape := ⟨5, ![8, 1, 32, 8, 64]⟩
abbrev S8x32x8x64 : Shape := ⟨4, ![8, 32, 8, 64]⟩
abbrev S2048x64 : Shape := ⟨2, ![2048, 64]⟩
abbrev S8x32x1x8x64 : Shape := ⟨5, ![8, 32, 1, 8, 64]⟩
abbrev S2048x32 : Shape := ⟨2, ![2048, 32]⟩
abbrev S2048x128 : Shape := ⟨2, ![2048, 128]⟩
abbrev S2048x96 : Shape := ⟨2, ![2048, 96]⟩
abbrev S8x1x256x128 : Shape := ⟨4, ![8, 1, 256, 128]⟩
abbrev S8x32x1x8x128 : Shape := ⟨5, ![8, 32, 1, 8, 128]⟩
abbrev S8x32x4x8x128 : Shape := ⟨5, ![8, 32, 4, 8, 128]⟩
abbrev S1x256x8x1024 : Shape := ⟨4, ![1, 256, 8, 1024]⟩
abbrev S1x8x256x128 : Shape := ⟨4, ![1, 8, 256, 128]⟩
abbrev S2048x1024 : Shape := ⟨2, ![2048, 1024]⟩

abbrev nBuf : Space → Nat
  | .hbm => 50
  | .vmem => 19
  | .smem => 0
  | _ => 0

abbrev bufTy : (tb : Table) → Fin (tcTables nBuf tb) → BufTy
  | .hbm, ⟨0, _⟩ => ⟨S8x1024x8x64, .f32⟩
  | .hbm, ⟨1, _⟩ => ⟨S8x1024x8x1024, .f32⟩
  | .hbm, ⟨2, _⟩ => ⟨S63x32, .f32⟩
  | .hbm, ⟨3, _⟩ => ⟨S63x32, .f32⟩
  | .hbm, ⟨4, _⟩ => ⟨S8x32x32x8x64, .f32⟩
  | .hbm, ⟨5, _⟩ => ⟨S_, .f32⟩
  | .hbm, ⟨6, _⟩ => ⟨S64x32, .f32⟩
  | .hbm, ⟨7, _⟩ => ⟨S_, .i32⟩
  | .hbm, ⟨8, _⟩ => ⟨S1, .i32⟩
  | .hbm, ⟨9, _⟩ => ⟨S64x32, .f32⟩
  | .hbm, ⟨10, _⟩ => ⟨S_, .f32⟩
  | .hbm, ⟨11, _⟩ => ⟨S64x32, .f32⟩
  | .hbm, ⟨12, _⟩ => ⟨S_, .i32⟩
  | .hbm, ⟨13, _⟩ => ⟨S1, .i32⟩
  | .hbm, ⟨14, _⟩ => ⟨S64x32, .f32⟩
  | .hbm, ⟨15, _⟩ => ⟨S8x32x256x128, .bf16⟩
  | .hbm, ⟨16, _⟩ => ⟨S8x32x256x128, .f32⟩
  | .hbm, ⟨17, _⟩ => ⟨S1024, .i32⟩
  | .hbm, ⟨18, _⟩ => ⟨S_, .f32⟩
  | .hbm, ⟨19, _⟩ => ⟨S128x1024, .f32⟩
  | .hbm, ⟨20, _⟩ => ⟨S1x1024, .i32⟩
  | .hbm, ⟨21, _⟩ => ⟨S_, .i32⟩
  | .hbm, ⟨22, _⟩ => ⟨S_, .i32⟩
  | .hbm, ⟨23, _⟩ => ⟨S1x1024, .i32⟩
  | .hbm, ⟨24, _⟩ => ⟨S1x1024, .i32⟩
  | .hbm, ⟨25, _⟩ => ⟨S1x1024, .i32⟩
  | .hbm, ⟨26, _⟩ => ⟨S_, .i32⟩
  | .hbm, ⟨27, _⟩ => ⟨S1x1024, .i32⟩
  | .hbm, ⟨28, _⟩ => ⟨S1x1024, .i1⟩
  | .hbm, ⟨29, _⟩ => ⟨S1x1024, .i32⟩
  | .hbm, ⟨30, _⟩ => ⟨S1x1024, .i32⟩
  | .hbm, ⟨31, _⟩ => ⟨S_, .i32⟩
  | .hbm, ⟨32, _⟩ => ⟨S1x1024, .i32⟩
  | .hbm, ⟨33, _⟩ => ⟨S1x1024, .i1⟩
  | .hbm, ⟨34, _⟩ => ⟨S1x1024, .i1⟩
  | .hbm, ⟨35, _⟩ => ⟨S_, .i32⟩
  | .hbm, ⟨36, _⟩ => ⟨S1x1024, .i32⟩
  | .hbm, ⟨37, _⟩ => ⟨S1x1024, .i32⟩
  | .hbm, ⟨38, _⟩ => ⟨S1x1024, .i32⟩
  | .hbm, ⟨39, _⟩ => ⟨S32, .i32⟩
  | .hbm, ⟨40, _⟩ => ⟨S32x1, .i32⟩
  | .hbm, ⟨41, _⟩ => ⟨S32x1024, .i32⟩
  | .hbm, ⟨42, _⟩ => ⟨S32x1024, .i32⟩
  | .hbm, ⟨43, _⟩ => ⟨S32x1024, .i1⟩
  | .hbm, ⟨44, _⟩ => ⟨S32x1024, .f32⟩
  | .hbm, ⟨45, _⟩ => ⟨S_, .i32⟩
  | .hbm, ⟨46, _⟩ => ⟨S1, .i32⟩
  | .hbm, ⟨47, _⟩ => ⟨S128x1024, .f32⟩
  | .hbm, ⟨48, _⟩ => ⟨S128x1024, .bf16⟩
  | .hbm, ⟨49, _⟩ => ⟨S8x1024x8x1024, .f32⟩
  | .local _ .vmem, ⟨0, _⟩ => ⟨S8x4x32x8x64, .f32⟩
  | .local _ .vmem, ⟨1, _⟩ => ⟨S8x4x32x8x64, .f32⟩
  | .local _ .vmem, ⟨2, _⟩ => ⟨S8x32x4x8x64, .f32⟩
  | .local _ .vmem, ⟨3, _⟩ => ⟨S8x32x4x8x64, .f32⟩
  | .local _ .vmem, ⟨4, _⟩ => ⟨S64x32, .f32⟩
  | .local _ .vmem, ⟨5, _⟩ => ⟨S64x32, .f32⟩
  | .local _ .vmem, ⟨6, _⟩ => ⟨S8x4x256x128, .bf16⟩
  | .local _ .vmem, ⟨7, _⟩ => ⟨S8x4x256x128, .bf16⟩
  | .local _ .vmem, ⟨8, _⟩ => ⟨S8x32x32x128, .f32⟩
  | .local _ .vmem, ⟨9, _⟩ => ⟨S8x32x32x128, .f32⟩
  | .local _ .vmem, ⟨10, _⟩ => ⟨S1x256x8x1024, .f32⟩
  | .local _ .vmem, ⟨11, _⟩ => ⟨S1x256x8x1024, .f32⟩
  | .local _ .vmem, ⟨12, _⟩ => ⟨S1x8x256x128, .bf16⟩
  | .local _ .vmem, ⟨13, _⟩ => ⟨S1x8x256x128, .bf16⟩
  | .local _ .vmem, ⟨14, _⟩ => ⟨S1x8x256x128, .f32⟩
  | .local _ .vmem, ⟨15, _⟩ => ⟨S1x8x256x128, .f32⟩
  | .local _ .vmem, ⟨16, _⟩ => ⟨S128x1024, .bf16⟩
  | .local _ .vmem, ⟨17, _⟩ => ⟨S1x256x8x1024, .f32⟩
  | .local _ .vmem, ⟨18, _⟩ => ⟨S1x256x8x1024, .f32⟩
  | _, _ => ⟨S8x1024x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_v7_0 : Ref sig .tc := ⟨.hbm, 15, rfl⟩
abbrev main_call0_v7_1 : Ref sig .tc := ⟨.hbm, 16, rfl⟩
abbrev main_call0_v8 : Ref sig .tc := ⟨.hbm, 17, rfl⟩
abbrev main_call0_cst_2 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_c : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_c_0 : Ref sig .tc := ⟨.hbm, 35, rfl⟩
abbrev main_call0_call0_v12 : Ref sig .tc := ⟨.hbm, 36, rfl⟩
abbrev main_call0_call0_v13 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_call0_v17 : Ref sig .tc := ⟨.hbm, 44, rfl⟩
abbrev main_call0_c_4 : Ref sig .tc := ⟨.hbm, 45, rfl⟩
abbrev main_call0_v18 : Ref sig .tc := ⟨.hbm, 46, rfl⟩
abbrev main_call0_v19 : Ref sig .tc := ⟨.hbm, 47, rfl⟩
abbrev main_call0_v20 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let c31_i32 : BitVec 32 := 31#32
  let arg0 : BitVec 32 := BitVec.ofNat 32 (i 0).val
  let c4_i32 : BitVec 32 := 4#32
  let v1 : BitVec 32 := Scalar.muli arg0 c4_i32
  let v2 : BitVec 32 := Scalar.addi v1 c0_i32
  let v3 : BitVec 32 := Scalar.subi c31_i32 v2
  let v4 : Index := Scalar.indexCast v3
  let c0 : Index := 0#32
  ![v4.toNat, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S8x4x32x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x4x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8x1024x8x64 : Shape := ⟨4, ![8, 1024, 8, 64]⟩
abbrev S8x1024x8x1024 : Shape := ⟨4, ![8, 1024, 8, 1024]⟩
abbrev S63x32 : Shape := ⟨2, ![63, 32]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S_ : Shape := ⟨0, ![]⟩
abbrev S32x32x1 : Shape := ⟨3, ![32, 32, 1]⟩
abbrev S32x32x32 : Shape := ⟨3, ![32, 32, 32]⟩
abbrev S8x32x32x8x2x32 : Shape := ⟨6, ![8, 32, 32, 8, 2, 32]⟩
abbrev S8x32x32x8x1x32 : Shape := ⟨6, ![8, 32, 32, 8, 1, 32]⟩
abbrev S8x32x32x8x32 : Shape := ⟨5, ![8, 32, 32, 8, 32]⟩
abbrev S32x32x8x32x8 : Shape := ⟨5, ![32, 32, 8, 32, 8]⟩
abbrev S8x1024x8x32x32 : Shape := ⟨5, ![8, 1024, 8, 32, 32]⟩
abbrev S8x1024x8x32x1 : Shape := ⟨5, ![8, 1024, 8, 32, 1]⟩
abbrev S8x1024x8x1x32 : Shape := ⟨5, ![8, 1024, 8, 1, 32]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x8x64, .f32⟩
  | .hbm, ⟨1, _⟩ => ⟨S8x1024x8x1024, .f32⟩
  | .hbm, ⟨2, _⟩ => ⟨S63x32, .f32⟩
  | .hbm, ⟨3, _⟩ => ⟨S63x32, .f32⟩
  | .hbm, ⟨4, _⟩ => ⟨S32, .i32⟩
  | .hbm, ⟨5, _⟩ => ⟨S1x32, .i32⟩
  | .hbm, ⟨6, _⟩ => ⟨S32x1, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i1⟩
  | .hbm, ⟨16, _⟩ => ⟨S_, .i32⟩
  | .hbm, ⟨17, _⟩ => ⟨S32x32, .i32⟩
  | .hbm, ⟨18, _⟩ => ⟨S32x32, .i32⟩
  | .hbm, ⟨19, _⟩ => ⟨S32x32, .i32⟩
  | .hbm, ⟨20, _⟩ => ⟨S32x32x1, .i32⟩
  | .hbm, ⟨21, _⟩ => ⟨S32x32x32, .f32⟩
  | .hbm, ⟨22, _⟩ => ⟨S32, .i32⟩
  | .hbm, ⟨23, _⟩ => ⟨S1x32, .i32⟩
  | .hbm, ⟨24, _⟩ => ⟨S32x1, .i32⟩
  | .hbm, ⟨25, _⟩ => ⟨S32x32, .i32⟩
  | .hbm, ⟨26, _⟩ => ⟨S32x32, .i32⟩
  | .hbm, ⟨27, _⟩ => ⟨S32x32, .i32⟩
  | .hbm, ⟨28, _⟩ => ⟨S_, .i32⟩
  | .hbm, ⟨29, _⟩ => ⟨S32x32, .i32⟩
  | .hbm, ⟨30, _⟩ => ⟨S32x32, .i32⟩
  | .hbm, ⟨31, _⟩ => ⟨S_, .i32⟩
  | .hbm, ⟨32, _⟩ => ⟨S32x32, .i32⟩
  | .hbm, ⟨33, _⟩ => ⟨S32x32, .i1⟩
  | .hbm, ⟨34, _⟩ => ⟨S_, .i32⟩
  | .hbm, ⟨35, _⟩ => ⟨S32x32, .i32⟩
  | .hbm, ⟨36, _⟩ => ⟨S32x32, .i32⟩
  | .hbm, ⟨37, _⟩ => ⟨S32x32, .i32⟩
  | .hbm, ⟨38, _⟩ => ⟨S32x32x1, .i32⟩
  | .hbm, ⟨39, _⟩ => ⟨S32x32x32, .f32⟩
  | .hbm, ⟨40, _⟩ => ⟨S8x32x32x8x2x32, .f32⟩
  | .hbm, ⟨41, _⟩ => ⟨S8x32x32x8x1x32, .f32⟩
  | .hbm, ⟨42, _⟩ => ⟨S8x32x32x8x32, .f32⟩
  | .hbm, ⟨43, _⟩ => ⟨S32x32x8x32x8, .f32⟩
  | .hbm, ⟨44, _⟩ => ⟨S8x32x32x8x32, .f32⟩
  | .hbm, ⟨45, _⟩ => ⟨S8x32x32x8x1x32, .f32⟩
  | .hbm, ⟨46, _⟩ => ⟨S8x32x32x8x32, .f32⟩
  | .hbm, ⟨47, _⟩ => ⟨S32x32x8x32x8, .f32⟩
  | .hbm, ⟨48, _⟩ => ⟨S8x32x32x8x32, .f32⟩
  | .hbm, ⟨49, _⟩ => ⟨S8x1024x8x32x32, .f32⟩
  | .hbm, ⟨50, _⟩ => ⟨S8x1024x8x32x1, .f32⟩
  | .hbm, ⟨51, _⟩ => ⟨S8x1024x8x32x32, .f32⟩
  | .hbm, ⟨52, _⟩ => ⟨S8x1024x8x32x32, .f32⟩
  | .hbm, ⟨53, _⟩ => ⟨S8x1024x8x1x32, .f32⟩
  | .hbm, ⟨54, _⟩ => ⟨S8x1024x8x32x32, .f32⟩
  | .hbm, ⟨55, _⟩ => ⟨S8x1024x8x32x32, .f32⟩
  | .hbm, ⟨56, _⟩ => ⟨S8x1024x8x1024, .f32⟩
  | _, _ => ⟨S8x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Proof.Run.lean ====
/-
  The kernel's run, read at its result: the launch of the two pallas_calls and of the host operations around them, its
  final state giving the result array beside the arguments.
-/
module

public import proofs.«01_k».proof.Proof.Gen.KernelIdeal.Frame

@[expose] public section

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents at the end, read at the result: what the second call's blocks, written back point by point, leave there. -/
theorem end_result (c : Dev nD) : W4 m ρ c (Proc.devRef .tc main_v0) = (dat1 (V3 m ρ) c).arrAt 4 cfg1.N :=
  W4_arr m ρ c 4

-- the launch theorem's implicit arguments are found by unifying its conclusion with this one
set_option backward.isDefEq.respectTransparency.types false in
/-- From any memory with zero counters every execution ends with the result array at what the second call wrote back and with
    the four arguments as they were. -/
theorem run : θ_run defs (onTc (τ := τ) (main (F := F))) ⟨m, fun _ => 0, ρ⟩ (fun r => ∀ c : Dev nD,
      r.2.mem ((c.tc : Thread nD τ).loc main_v0) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v0 (by decide))).trans (end_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Result

end
-- ==== Proof.Parts.lean ====
/-
  The arithmetic of the logits kernel, read at an index. One grid point treats four rows (columns) of the image; each row's
  part of the height logits is one matrix product of the queries with that row's 32 rows of the height table widened by
  zeros, and each column's part of the width logits one with the width table's rows widened on the other side. The four
  parts are the same computation on different inputs, so it is read once here, for each of the two.
-/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Parts

open Idealize.ShloMosaic Cert.KernelIdeal Cert.KernelIdeal.Gen

/-- One row's part of the height logits: entry `l < 32` is the product of the query's first 32 channels with row `l` of the
    piece `p` of the table, and the entries from 32 on are zero. -/
theorem height_part (p : FVec Ideal S32x32 .f32) (q : FVec Ideal S8x1x32x8x64 .f32) (b : Fin 8) (r : Fin 256) (l : Fin 128) :
    k0_pay4 (F := Ideal) p q (ix4 b 0 r l)
      = if h : l.val < 32 then ∑ k : Fin 32, q (ix5 b 0 ⟨r.val / 8, by omega⟩ ⟨r.val % 8, by omega⟩ ⟨k.val, by omega⟩) * p (ix2 ⟨l.val, h⟩ k)
        else 0 := by
  pointwise [k0_pay4, k0_pay3]
  split
  · simp only [mul_zero, Finset.sum_const_zero, add_zero]
    refine Finset.sum_congr rfl fun k _ => ?_
    blk_point []
  · rfl

/-- One column's part of the width logits, each of the table's 32 rows taken four times over. -/
theorem width_part (p : FVec Ideal S32x32 .f32) (q : FVec Ideal S8x32x1x8x64 .f32) (b : Fin 8) (h : Fin 32) (g : Fin 8) (l : Fin 128) :
    k0_pay5 (F := Ideal) p q (ix5 b h 0 g l)
      = ∑ k : Fin 32, q (ix5 b h 0 g ⟨32 + k.val, by omega⟩) * p (ix2 ⟨l.val % 32, by omega⟩ k) := by
  pointwise [k0_pay5, k0_pay3]
  simp only [dite_eq_ite, ite_self, mul_zero, Finset.sum_const_zero, zero_add]
  refine Finset.sum_congr rfl fun k _ => ?_
  congr 1
  split_ifs <;> exact congrArg p (by blk_ext)

/-- What the kernel stores of the height logits: its four rows' parts side by side. -/
theorem height_stack (p0 p1 p2 p3 : FVec Ideal S32x32 .f32) (q0 q1 q2 q3 : FVec Ideal S8x1x32x8x64 .f32) :
    k0_pay1 (F := Ideal) (k0_pay4 p0 q0) (k0_pay7 k0_pay3 (k0_pay6 p1) q1) (k0_pay11 (k0_pay9 k0_pay3 p2) q2) (k0_pay13 k0_pay3 p3) (k0_pay15 q3)
      = concatenate S8x4x256x128 1 [⟨S8x1x256x128, k0_pay4 (F := Ideal) p0 q0⟩, ⟨S8x1x256x128, k0_pay4 (F := Ideal) p1 q1⟩,
          ⟨S8x1x256x128, k0_pay4 (F := Ideal) p2 q2⟩, ⟨S8x1x256x128, k0_pay4 (F := Ideal) p3 q3⟩]
          concatenates_S8x1x256x128_S8x1x256x128_S8x1x256x128_S8x1x256x128_S8x4x256x128_d1 := rfl

/-- What the kernel stores of the width logits: its four columns' parts side by side, a column's eight groups on consecutive rows. -/
theorem width_stack (p0 p1 p2 p3 : FVec Ideal S32x32 .f32) (q0 q1 q2 q3 : FVec Ideal S8x32x1x8x64 .f32) :
    k0_pay2 (F := Ideal) (k0_pay5 p0 q0) (k0_pay8 k0_pay3 p1 q1) (k0_pay12 (k0_pay10 k0_pay3 p2) q2) (k0_pay14 k0_pay3 p3) (k0_pay16 q3)
      = shapeCast S8x32x32x128 (concatenate S8x32x4x8x128 2 [⟨S8x32x1x8x128, k0_pay5 (F := Ideal) p0 q0⟩, ⟨S8x32x1x8x128, k0_pay5 (F := Ideal) p1 q1⟩,
          ⟨S8x32x1x8x128, k0_pay5 (F := Ideal) p2 q2⟩, ⟨S8x32x1x8x128, k0_pay5 (F := Ideal) p3 q3⟩]
          concatenates_S8x32x1x8x128_S8x32x1x8x128_S8x32x1x8x128_S8x32x1x8x128_S8x32x4x8x128_d2)
          shapeCasts_S8x32x4x8x128_S8x32x32x128 := rfl

/-- Four rows' parts side by side, read in row `s`: that row's part. -/
theorem height_row (u : Fin 4 → FVec Ideal S8x1x256x128 .bf16) (b : Fin 8) (s : Fin 4) (r : Fin 256) (l : Fin 128) :
    concatenate S8x4x256x128 1 [⟨S8x1x256x128, u 0⟩, ⟨S8x1x256x128, u 1⟩, ⟨S8x1x256x128, u 2⟩, ⟨S8x1x256x128, u 3⟩]
        concatenates_S8x1x256x128_S8x1x256x128_S8x1x256x128_S8x1x256x128_S8x4x256x128_d1 (ix4 b s r l)
      = u s (ix4 b 0 r l) := by
  pointwise []
  obtain ⟨s, hs⟩ := s
  interval_cases s <;> rfl

/-- Four columns' parts side by side, read in column `s`: that column's part. -/
theorem width_column (u : Fin 4 → FVec Ideal S8x32x1x8x128 .f32) (b : Fin 8) (h : Fin 32) (s : Fin 4) (g : Fin 8) (l : Fin 128) :
    concatenate S8x32x4x8x128 2 [⟨S8x32x1x8x128, u 0⟩, ⟨S8x32x1x8x128, u 1⟩, ⟨S8x32x1x8x128, u 2⟩, ⟨S8x32x1x8x128, u 3⟩]
        concatenates_S8x32x1x8x128_S8x32x1x8x128_S8x32x1x8x128_S8x32x1x8x128_S8x32x4x8x128_d2 (ix5 b h s g l)
      = u s (ix5 b h 0 g l) := by
  pointwise []
  obtain ⟨s, hs⟩ := s
  interval_cases s <;> rfl

/-- Columns with their groups laid on consecutive rows: row `r` is group `r % 8` of column `r / 8`. -/
theorem width_row (v : FVec Ideal S8x32x4x8x128 .f32) (b : Fin 8) (h r : Fin 32) (l : Fin 128) :
    shapeCast S8x32x32x128 v shapeCasts_S8x32x4x8x128_S8x32x32x128 (ix4 b h r l)
      = v (ix5 b h ⟨r.val / 8, by omega⟩ ⟨r.val % 8, by omega⟩ l) := by
  pointwise []

/-- What the second kernel stores: the attention entry, plus the height logits against the column of the spreading matrix,
    plus the width logit of the column's remainder modulo 128. -/
theorem add_part (lh : FVec Ideal S1x8x256x128 .bf16) (lw : FVec Ideal S1x8x256x128 .f32) (rep : FVec Ideal S128x1024 .bf16)
    (a : FVec Ideal S1x256x8x1024 .f32) (n : Fin 256) (g : Fin 8) (j : Fin 1024) :
    k1_pay1 (F := Ideal) lh lw rep a (ix4 0 n g j)
      = a (ix4 0 n g j) + ((∑ l : Fin 128, lh (ix4 0 ⟨n.val / 32, by omega⟩ ⟨n.val % 32 * 8 + g.val, by omega⟩ l) * rep (ix2 l j))
          + lw (ix4 0 ⟨n.val / 32, by omega⟩ ⟨n.val % 32 * 8 + g.val, by omega⟩ ⟨j.val % 128, by omega⟩)) := by
  pointwise [k1_pay1]
  congr 2
  · refine Finset.sum_congr rfl fun l _ => ?_
    congr 1
    exact congrArg lh (by blk_ext)
  · split_ifs <;> exact congrArg lw (by blk_ext)

end Cert.KernelIdeal.Parts

end
-- ==== Proof.Add.lean ====
/-
  The array that the second kernel leaves: the attention scores plus the two kinds of logits, each spread over the keys.
-/
module

public import proofs.«01_k».proof.Proof.Parts
public import proofs.«01_k».proof.Proof.Gen.KernelIdeal.Frame

@[expose] public section

set_option maxRecDepth 16384

noncomputable section

namespace Cert.KernelIdeal.Add

open Idealize.ShloMosaic Idealize.ShloMosaic.TcCoe Idealize.SL.Sem
open Idealize.ShloMosaic.Pipeline (Dat)
open Cert.KernelIdeal Cert.KernelIdeal.Gen Cert.KernelIdeal.Parts

variable (V : (c : Dev nD) → (b : Ref sig .tc) → Buf (Elt Ideal) ((c : Thread nD τ).loc b))

/-- The sum that the second call writes, as one function of the scores, the two kinds of logits and the spreading matrix: for
    query `n`, group `g` and key `j`, the height logits of row `(n % 32) * 8 + g` of image row `n / 32` against column `j`
    of the spreading matrix, and the width logit of that row at `j % 128`. -/
def added (a : FVec Ideal S8x1024x8x1024 .f32) (lh : FVec Ideal S8x32x256x128 .bf16) (lw : FVec Ideal S8x32x256x128 .f32)
    (rep : FVec Ideal S128x1024 .bf16) : FVec Ideal S8x1024x8x1024 .f32 := fun y =>
  a y + ((∑ l : Fin 128, lh (ix4 (y 0) ⟨(y 1).val / 32, by idx_bounds; omega⟩ ⟨(y 1).val % 32 * 8 + (y 2).val, by idx_bounds; omega⟩ l)
      * rep (ix2 l (y 3)))
    + lw (ix4 (y 0) ⟨(y 1).val / 32, by idx_bounds; omega⟩ ⟨(y 1).val % 32 * 8 + (y 2).val, by idx_bounds; omega⟩
        ⟨(y 3).val % 128, by omega⟩))

/-- Where the windows of the second call stand at point `t`: image `t / 4`, quarter `t % 4` of its queries. -/
theorem idx : ∀ t : Fin cfg1.N, win1_0.index t = ![t.val / 4, t.val % 4, 0, 0] ∧ win1_1.index t = ![t.val / 4, t.val % 4, 0, 0]
    ∧ win1_2.index t = ![t.val / 4, t.val % 4, 0, 0] ∧ win1_3.index t = ![0, 0] ∧ win1_4.index t = ![t.val / 4, t.val % 4, 0, 0] :=
  (by decide +kernel : ∀ t : Fin grid1.N, _)

/-- What a point stores is the sum over the point's block. -/
theorem add_block (c : Dev nD) (t : Fin cfg1.N) (n : Fin 256) (g : Fin 8) (j : Fin 1024) :
    k1_pay1 (F := Ideal) (iblk1 V c 1 t) (iblk1 V c 2 t) (iblk1 V c 3 t) (iblk1 V c 0 t) (ix4 0 n g j)
      = added (V c main_arg1) (V c main_call0_v7_0) (V c main_call0_v7_1) (V c main_call0_v20) (((cfg1.win 4).blk t).view.emb (ix4 0 n g j)) := by
  refine (add_part _ _ _ _ n g j).trans ?_
  have ht := lt_of_lt_of_eq t.isLt N_1
  have e : ((cfg1.win 4).blk t).view.emb (ix4 0 n g j)
      = ix4 ⟨t.val / 4, by omega⟩ ⟨256 * (t.val % 4) + n.val, by omega⟩ g j := by
    blk_ext [idx t]
  refine Eq.trans ?_ (congrArg (added (V c main_arg1) (V c main_call0_v7_0) (V c main_call0_v7_1) (V c main_call0_v20)) e).symm
  unfold added
  blk_point [iblk1, idx t]

/-- The array the second call leaves, whole. -/
theorem final_add (c : Dev nD) : (dat1 V c).arrAt 4 cfg1.N
    = added (V c main_arg1) (V c main_call0_v7_0) (V c main_call0_v7_1) (V c main_call0_v20) := by
  refine (dat1 V c).arrAt_eq_of_covers 4 _ (by decide +kernel) fun t _ y => ?_
  blk_simp
  rw [after1_4]
  frame_out
  have hy : y = ix4 0 (y 1) (y 2) (y 3) := by blk_ext
  rw [hy]
  exact add_block V c t _ _ _

end Cert.KernelIdeal.Add

end
-- ==== Proof.Logits.lean ====
/-
  The two arrays that the first kernel leaves.
-/
module

public import proofs.«01_k».proof.Proof.Parts
public import proofs.«01_k».proof.Proof.Gen.KernelIdeal.Frame

@[expose] public section

set_option maxRecDepth 16384

noncomputable section

namespace Cert.KernelIdeal.Logits

open Idealize.ShloMosaic Idealize.ShloMosaic.TcCoe Idealize.SL.Sem
open Idealize.ShloMosaic.Pipeline (Dat)
open Cert.KernelIdeal Cert.KernelIdeal.Gen Cert.KernelIdeal.Parts

variable (V : (c : Dev nD) → (b : Ref sig .tc) → Buf (Elt Ideal) ((c : Thread nD τ).loc b))

/-- The height logits as one function of the queries and the table: at image row `h`, query row `w * 8 + g` and entry
    `l < 32`, the first 32 channels of query `(h, w, g)` against row `31 - h + l` of the table; zero from entry 32 on. -/
def heights (q : FVec Ideal S8x32x32x8x64 .f32) (tab : FVec Ideal S64x32 .f32) : FVec Ideal S8x32x256x128 .bf16 := fun y =>
  if h : (y 3).val < 32 then
    ∑ k : Fin 32, q (ix5 (y 0) (y 1) ⟨(y 2).val / 8, by idx_bounds; omega⟩ ⟨(y 2).val % 8, by omega⟩ ⟨k.val, by omega⟩)
      * tab (ix2 ⟨31 - (y 1).val + (y 3).val, by idx_bounds; omega⟩ k)
  else 0

/-- The width logits as one function of the queries and the table: at image row `h`, query row `w * 8 + g` and entry `l`, the
    last 32 channels of query `(h, w, g)` against row `31 - w + l % 32` of the table. -/
def widths (q : FVec Ideal S8x32x32x8x64 .f32) (tab : FVec Ideal S64x32 .f32) : FVec Ideal S8x32x256x128 .f32 := fun y =>
  ∑ k : Fin 32, q (ix5 (y 0) (y 1) ⟨(y 2).val / 8, by idx_bounds; omega⟩ ⟨(y 2).val % 8, by omega⟩ ⟨32 + k.val, by omega⟩)
    * tab (ix2 ⟨31 - (y 2).val / 8 + (y 3).val % 32, by idx_bounds; omega⟩ k)

/-- Where the windows of the first call stand at point `t`. -/
theorem idx : ∀ t : Fin cfg0.N, win0_0.index t = ![0, t.val, 0, 0, 0] ∧ win0_1.index t = ![0, 0, t.val, 0, 0]
    ∧ win0_2.index t = ![0, 0] ∧ win0_3.index t = ![0, 0] ∧ win0_4.index t = ![0, t.val, 0, 0] ∧ win0_5.index t = ![0, 0, t.val, 0] :=
  (by decide +kernel : ∀ t : Fin grid0.N, _)

/-- The table rows read at point `t` for its row `s` begin at `31 - (4 t + s)`. -/
theorem off : ∀ (t : Fin grid0.N) (s : Fin 4), k0_off1 (grid0.coords t) (BitVec.ofNat 32 s.val) = ![31 - (4 * t.val + s.val), 0] := by
  decide +kernel

/-- The 32 rows of a table that serve image row (or column) `4 t + s`. -/
def tabRows (tab : FVec Ideal S64x32 .f32) (t : Fin grid0.N) (s : Fin 4) : FVec Ideal S32x32 .f32 := fun y =>
  tab (ix2 ⟨31 - (4 * t.val + s.val) + (y 0).val, by idx_bounds; omega⟩ (y 1))

/-- The queries of image row `4 t + s`. -/
def qRows (q : FVec Ideal S8x32x32x8x64 .f32) (t : Fin grid0.N) (s : Fin 4) : FVec Ideal S8x1x32x8x64 .f32 := fun y =>
  q (ix5 (y 0) ⟨4 * t.val + s.val, by have := lt_of_lt_of_eq t.isLt N_0; omega⟩ (y 2) (y 3) (y 4))

/-- The queries of image column `4 t + s`. -/
def qCols (q : FVec Ideal S8x32x32x8x64 .f32) (t : Fin grid0.N) (s : Fin 4) : FVec Ideal S8x32x1x8x64 .f32 := fun y =>
  q (ix5 (y 0) (y 1) ⟨4 * t.val + s.val, by have := lt_of_lt_of_eq t.isLt N_0; omega⟩ (y 3) (y 4))

/-- The piece of the height table that point `t` reads for its row `s`. -/
theorem ld_height (c : Dev nD) (t : Fin cfg0.N) (w : BitVec 32) (s : Fin 4) (hw : w = BitVec.ofNat 32 s.val)
    (h : ∀ a, k0_off1 (grid0.coords t) w a + S32x32.size a ≤ S64x32.size a) :
    View.ld (iblk0 V c 2 t) (Rect.unit (s := S64x32) (k0_off1 (grid0.coords t) w) S32x32.size h) = tabRows (V c main_call0_v3) t s := by
  subst hw
  funext y
  have ho := off t s
  refine congrArg (V c main_call0_v3) (a₁ := ((cfg0.win 2).blk t).view.emb ((Rect.unit (s := S64x32) (k0_off1 (grid0.coords t) (BitVec.ofNat 32 s.val)) S32x32.size h).emb y)) ?_
  blk_ext [idx t, ho]

/-- The queries point `t` reads for its row `s`. -/
theorem ld_rows (c : Dev nD) (t : Fin cfg0.N) (a : ℕ) (s : Fin 4) (ha : a = s.val)
    (h : ∀ x, (![0, a, 0, 0, 0] : Fin 5 → ℕ) x + S8x1x32x8x64.size x ≤ S8x4x32x8x64.size x) :
    View.ld (iblk0 V c 0 t) (Rect.unit (s := S8x4x32x8x64) ![0, a, 0, 0, 0] S8x1x32x8x64.size h) = qRows (V c main_call0_v0) t s := by
  subst ha
  funext y
  refine congrArg (V c main_call0_v0) (a₁ := ((cfg0.win 0).blk t).view.emb ((Rect.unit (s := S8x4x32x8x64) ![0, s.val, 0, 0, 0] S8x1x32x8x64.size h).emb y)) ?_
  blk_ext [idx t]

/-- What a point stores of the height logits is those logits over the point's block. -/
theorem height_block (c : Dev nD) (t : Fin cfg0.N) (b : Fin 8) (s : Fin 4) (r : Fin 256) (l : Fin 128) :
    (outsAt0 V c t).1 (ix4 b s r l) = heights (V c main_call0_v0) (V c main_call0_v3) (((cfg0.win 4).blk t).view.emb (ix4 b s r l)) := by
  unfold outsAt0
  frame_out
  rw [height_stack, ld_height V c t 0#32 0 rfl, ld_height V c t 1#32 1 rfl, ld_height V c t 2#32 2 rfl, ld_height V c t 3#32 3 rfl,
    ld_rows V c t 0 0 rfl, ld_rows V c t 1 1 rfl, ld_rows V c t 2 2 rfl, ld_rows V c t 3 3 rfl]
  refine (height_row (fun s => k0_pay4 (F := Ideal) (tabRows (V c main_call0_v3) t s) (qRows (V c main_call0_v0) t s)) b s r l).trans ?_
  refine (height_part _ _ b r l).trans ?_
  have e : ((cfg0.win 4).blk t).view.emb (ix4 b s r l) = ix4 b ⟨4 * t.val + s.val, by have := lt_of_lt_of_eq t.isLt N_0; omega⟩ r l := by
    blk_ext [idx t]
  exact (congrArg (heights (V c main_call0_v0) (V c main_call0_v3)) e).symm

/-- The piece of the width table that point `t` reads for its column `s`. -/
theorem ld_width (c : Dev nD) (t : Fin cfg0.N) (w : BitVec 32) (s : Fin 4) (hw : w = BitVec.ofNat 32 s.val)
    (h : ∀ a, k0_off1 (grid0.coords t) w a + S32x32.size a ≤ S64x32.size a) :
    View.ld (iblk0 V c 3 t) (Rect.unit (s := S64x32) (k0_off1 (grid0.coords t) w) S32x32.size h) = tabRows (V c main_call0_v6) t s := by
  subst hw
  funext y
  have ho := off t s
  refine congrArg (V c main_call0_v6) (a₁ := ((cfg0.win 3).blk t).view.emb ((Rect.unit (s := S64x32) (k0_off1 (grid0.coords t) (BitVec.ofNat 32 s.val)) S32x32.size h).emb y)) ?_
  blk_ext [idx t, ho]

/-- The queries point `t` reads for its column `s`. -/
theorem ld_columns (c : Dev nD) (t : Fin cfg0.N) (a : ℕ) (s : Fin 4) (ha : a = s.val)
    (h : ∀ x, (![0, 0, a, 0, 0] : Fin 5 → ℕ) x + S8x32x1x8x64.size x ≤ S8x32x4x8x64.size x) :
    View.ld (iblk0 V c 1 t) (Rect.unit (s := S8x32x4x8x64) ![0, 0, a, 0, 0] S8x32x1x8x64.size h) = qCols (V c main_call0_v0) t s := by
  subst ha
  funext y
  refine congrArg (V c main_call0_v0) (a₁ := ((cfg0.win 1).blk t).view.emb ((Rect.unit (s := S8x32x4x8x64) ![0, 0, s.val, 0, 0] S8x32x1x8x64.size h).emb y)) ?_
  blk_ext [idx t]

/-- What a point stores of the width logits is those logits over the point's block. -/
theorem width_block (c : Dev nD) (t : Fin cfg0.N) (b : Fin 8) (h r : Fin 32) (l : Fin 128) :
    (outsAt0 V c t).2 (ix4 b h r l) = widths (V c main_call0_v0) (V c main_call0_v6) (((cfg0.win 5).blk t).view.emb (ix4 b h r l)) := by
  unfold outsAt0
  frame_out
  rw [width_stack, ld_width V c t 0#32 0 rfl, ld_width V c t 1#32 1 rfl, ld_width V c t 2#32 2 rfl, ld_width V c t 3#32 3 rfl,
    ld_columns V c t 0 0 rfl, ld_columns V c t 1 1 rfl, ld_columns V c t 2 2 rfl, ld_columns V c t 3 3 rfl]
  refine (width_row _ b h r l).trans ?_
  refine (width_column (fun s => k0_pay5 (F := Ideal) (tabRows (V c main_call0_v6) t s) (qCols (V c main_call0_v0) t s)) b h _ _ l).trans ?_
  refine (width_part _ _ b h _ l).trans ?_
  have e : ((cfg0.win 5).blk t).view.emb (ix4 b h r l) = ix4 b h ⟨32 * t.val + r.val, by have := lt_of_lt_of_eq t.isLt N_0; omega⟩ l := by
    blk_ext [idx t]
  refine Eq.trans ?_ (congrArg (widths (V c main_call0_v0) (V c main_call0_v6)) e).symm
  unfold widths qCols tabRows
  refine Finset.sum_congr rfl fun k _ => ?_
  congr 1
  · exact congrArg (V c main_call0_v0) (by blk_ext)
  · exact congrArg (V c main_call0_v6) (by blk_ext)

/-- The first array the first call leaves: the height logits, whole. -/
theorem final_height (c : Dev nD) : (dat0 V c).arrAt 4 cfg0.N = heights (V c main_call0_v0) (V c main_call0_v3) := by
  refine (dat0 V c).arrAt_eq_of_covers 4 _ (by decide +kernel) fun t _ y => ?_
  blk_simp
  rw [after0_4]
  have hy : y = ix4 (y 0) (y 1) (y 2) (y 3) := by blk_ext
  rw [hy]
  exact height_block V c t _ _ _ _

/-- The second array the first call leaves: the width logits, whole. -/
theorem final_width (c : Dev nD) : (dat0 V c).arrAt 5 cfg0.N = widths (V c main_call0_v0) (V c main_call0_v6) := by
  refine (dat0 V c).arrAt_eq_of_covers 5 _ (by decide +kernel) fun t _ y => ?_
  blk_simp
  rw [after0_5]
  have hy : y = ix4 (y 0) (y 1) (y 2) (y 3) := by blk_ext
  rw [hy]
  exact width_block V c t _ _ _ _

end Cert.KernelIdeal.Logits

end
-- ==== Proof.Tables.lean ====
/-
  What the host operations around the two kernels leave: the queries on the image's grid, the two tables with a row of zeros
  appended, and the matrix that spreads a row's 32 height logits over the 1024 keys.
-/
module

public import proofs.«01_k».proof.Proof.Gen.KernelIdeal.Frame
public import Idealize.ShloMosaic.Lib.Pointwise
public import Idealize.ShloMosaic.Lib.Pipeline.ValueKit
public import Idealize.ShloMosaic.Lib.Claim
public import Idealize.ShloMosaic.Lib.Routing.OpsPair
public import Idealize.ShloMosaic.Lib.Routing.OpsSet

@[expose] public section

set_option maxRecDepth 16384

noncomputable section

namespace Cert.KernelIdeal.Tables

open Idealize.ShloMosaic Idealize.ShloMosaic.TcCoe Idealize.SL.Sem
open Idealize.ShloMosaic.Routing (scatter_set_hit scatter_set_miss resultIdx?_eq_some)
open Cert.KernelIdeal Cert.KernelIdeal.Gen

/-- A table with a row of zeros appended, as the host writes it: the table scattered whole into 64 rows of zeros. -/
def padded (x : FVec Ideal S63x32 .f32) : FVec Ideal S64x32 .f32 :=
  Host.scatter scatter_S64x32_S1_S63x32_01_n_0_0 (fun _ b => b) (broadcastInDim S64x32 ![] bcast_S_S64x32 (constant S_ .f32 0x00000000#32))
    (broadcastInDim S1 ![] bcast_S_S1 (constantI S_ 32 0#32)) x

/-- The table's entry `k` lands at `(k 0, k 1)`. -/
theorem padded_lands (k : S63x32.Idx) (y : S64x32.Idx) :
    scatter_S64x32_S1_S63x32_01_n_0_0.resultIdx? k (broadcastInDim S1 ![] bcast_S_S1 (constantI S_ 32 0#32)) = some y
      ↔ (k 0).val = (y 0).val ∧ (k 1).val = (y 1).val := by
  rw [resultIdx?_eq_some, Fin.forall_fin_two]
  have s0 : scatter_S64x32_S1_S63x32_01_n_0_0.start k (broadcastInDim S1 ![] bcast_S_S1 (constantI S_ 32 0#32)) 0 = 0 := rfl
  have s1 : scatter_S64x32_S1_S63x32_01_n_0_0.start k (broadcastInDim S1 ![] bcast_S_S1 (constantI S_ 32 0#32)) 1 = 0 := rfl
  have w0 : scatter_S64x32_S1_S63x32_01_n_0_0.window k 0 = (k 0).val := rfl
  have w1 : scatter_S64x32_S1_S63x32_01_n_0_0.window k 1 = (k 1).val := rfl
  rw [s0, s1, w0, w1]
  omega

/-- The padded table at a row of the table: that row. -/
theorem padded_row (x : FVec Ideal S63x32 .f32) (r : Fin 63) (k : Fin 32) : padded x (ix2 ⟨r.val, by omega⟩ k) = x (ix2 r k) := by
  refine scatter_set_hit _ _ _ _ _ _ (fun i hi => congrArg x ?_) (ix2 r k) ((padded_lands _ _).2 ⟨rfl, rfl⟩)
  have h := (padded_lands _ _).1 hi
  have h0 : (i 0).val = r.val := h.1
  have h1 : (i 1).val = k.val := h.2
  blk_ext

/-- The keys `0, …, 1023`, in a row. -/
def keys : IVec S1x1024 32 := broadcastInDim S1x1024 ![1] bcast_S1024_S1x1024_1 (iotaInDim S1024 32 0)

/-- One word, in every place of a row of 1024. -/
def row (w : IVec S_ 32) : IVec S1x1024 32 := broadcastInDim S1x1024 ![] bcast_S_S1x1024 w

/-- The keys divided by 32, rounded down, as the host computes it: the quotient rounded toward zero, less one where the signs
    differ and the remainder is not zero. -/
def keyRows : IVec S1x1024 32 :=
  select (andi (cmpi .ne (signi keys) (row (signi (constantI S_ 32 32#32)))) (cmpi .ne (Host.remsi keys (row (constantI S_ 32 32#32))) (row (constantI S_ 32 0#32))))
    (subi (Host.divsi keys (row (constantI S_ 32 32#32))) (row (constantI S_ 32 1#32))) (Host.divsi keys (row (constantI S_ 32 32#32)))

/-- Row `l`, column `j`: one where key `j` lies in image row `l`, else zero. -/
def marks : FVec Ideal S32x1024 .f32 :=
  uitofp .f32 (cmpi .eq (broadcastInDim S32x1024 ![0, 1] bcast_S1x1024_S32x1024_0_1 keyRows)
    (broadcastInDim S32x1024 ![0, 1] bcast_S32x1_S32x1024_0_1 (broadcastInDim S32x1 ![0] bcast_S32_S32x1_0 (iotaInDim S32 32 0))))

/-- The spreading matrix: the marks in its first 32 rows, zeros below. -/
def spread : FVec Ideal S128x1024 .bf16 :=
  truncf .bf16 (Host.scatter scatter_S128x1024_S1_S32x1024_01_n_0_0 (fun _ b => b)
    (broadcastInDim S128x1024 ![] bcast_S_S128x1024 (constant (F := Ideal) S_ .f32 0x00000000#32))
    (broadcastInDim S1 ![] bcast_S_S1 (constantI S_ 32 0#32)) marks) bitsLt_bf16_f32

/-- The division of a key by 32, word by word. -/
theorem quotient_word : ∀ j : Fin 1024,
    Scalar.select (IntOp.andi (IntOp.cmpi CmpIPredicate.ne
              (if BitVec.ofNat 32 j.val = 0 then (0 : BitVec 32) else if (BitVec.ofNat 32 j.val).msb = true then -1 else 1)
              (if 32#32 = 0 then (0 : BitVec 32) else if (32#32).msb = true then -1 else 1))
            (IntOp.cmpi CmpIPredicate.ne (IntOp.remsi ArithUnit.host (BitVec.ofNat 32 j.val) 32#32) 0#32))
          (IntOp.subi (IntOp.divsi ArithUnit.host (BitVec.ofNat 32 j.val) 32#32) 1#32)
          (IntOp.divsi ArithUnit.host (BitVec.ofNat 32 j.val) 32#32) = BitVec.ofNat 32 (j.val / 32) := by
  decide +kernel

/-- The image row of key `j` is `j / 32`. -/
theorem keyRows_apply (j : Fin 1024) : keyRows (ix2 0 j) = BitVec.ofNat 32 (j.val / 32) := by
  pointwise [keyRows, keys, row]
  exact quotient_word j

/-- The marks, as numbers. -/
theorem marks_apply (l : Fin 32) (j : Fin 1024) : marks (ix2 l j) = if j.val / 32 = l.val then 1 else 0 := by
  have h : marks (ix2 l j) = FloatOps.uitofp (F := Ideal) .f32 (IntOp.cmpi .eq (keyRows (ix2 0 j)) (BitVec.ofNat 32 l.val)) := by
    pointwise [marks]
  rw [h, keyRows_apply, WordCmp.cmpi_eq_eq_toNat, BitVec.toNat_ofNat, BitVec.toNat_ofNat, Nat.mod_eq_of_lt (by omega), Nat.mod_eq_of_lt (by omega)]
  by_cases e : j.val / 32 = l.val
  · rw [if_pos e, decide_eq_true e]
    show (((BitVec.ofBool true).toNat : ℝ) : EReal) = 1
    simp
  · rw [if_neg e, decide_eq_false e]
    show (((BitVec.ofBool false).toNat : ℝ) : EReal) = 0
    simp

/-- Mark `k` lands at `(k 0, k 1)`. -/
theorem spread_lands (k : S32x1024.Idx) (y : S128x1024.Idx) :
    scatter_S128x1024_S1_S32x1024_01_n_0_0.resultIdx? k (broadcastInDim S1 ![] bcast_S_S1 (constantI S_ 32 0#32)) = some y
      ↔ (k 0).val = (y 0).val ∧ (k 1).val = (y 1).val := by
  rw [resultIdx?_eq_some, Fin.forall_fin_two]
  have s0 : scatter_S128x1024_S1_S32x1024_01_n_0_0.start k (broadcastInDim S1 ![] bcast_S_S1 (constantI S_ 32 0#32)) 0 = 0 := rfl
  have s1 : scatter_S128x1024_S1_S32x1024_01_n_0_0.start k (broadcastInDim S1 ![] bcast_S_S1 (constantI S_ 32 0#32)) 1 = 0 := rfl
  have w0 : scatter_S128x1024_S1_S32x1024_01_n_0_0.window k 0 = (k 0).val := rfl
  have w1 : scatter_S128x1024_S1_S32x1024_01_n_0_0.window k 1 = (k 1).val := rfl
  rw [s0, s1, w0, w1]
  omega

/-- The spreading matrix at row `l`, column `j`: one where `l` is the image row of key `j`, else zero (and so zero from row 32 on). -/
theorem spread_apply (l : Fin 128) (j : Fin 1024) : spread (ix2 l j) = if j.val / 32 = l.val then 1 else 0 := by
  have hcast : ∀ v : FVec Ideal S128x1024 .f32, truncf .bf16 v bitsLt_bf16_f32 (ix2 l j) = v (ix2 l j) := fun _ => rfl
  unfold spread
  rw [hcast]
  by_cases hl : l.val < 32
  · refine scatter_set_hit _ _ _ _ _ _ (fun i hi => ?_) (ix2 ⟨l.val, hl⟩ j) ((spread_lands _ _).2 ⟨rfl, rfl⟩)
    have h := (spread_lands _ _).1 hi
    have h0 : (i 0).val = l.val := h.1
    have h1 : (i 1).val = j.val := h.2
    exact (congrArg marks (by blk_ext : i = ix2 ⟨l.val, hl⟩ j)).trans (marks_apply _ _)
  · rw [if_neg (by omega)]
    refine (scatter_set_miss _ _ _ _ _ fun i hi => ?_).trans ?_
    · have h0 : (i 0).val = l.val := ((spread_lands _ _).1 hi).1
      idx_bounds
      omega
    · pointwise []

variable (m : (ℓ : Loc nD τ sig) → Buf (Elt Ideal) ℓ) (ρ : Dev nD → PrngReg)

/-- The first call finds the queries on the image's grid, -/
theorem entry_q (c : Dev nD) : V1 m ρ c main_call0_v0 = shapeCast S8x32x32x8x64 (m ((c : Thread nD τ).loc main_arg0)) shapeCasts_S8x1024x8x64_S8x32x32x8x64 := by
  show StableHlo.after hostOps0 _ (Proc.devRef .tc main_call0_v0) = _
  after_results_simp
  rfl

/-- the height table padded -/
theorem entry_height (c : Dev nD) : V1 m ρ c main_call0_v3 = padded (m ((c : Thread nD τ).loc main_arg2)) := by
  show StableHlo.after hostOps0 _ (Proc.devRef .tc main_call0_v3) = _
  after_results_simp
  simp only [StableHlo.TRef.ofBuf_toBuf]
  simp only [StableHlo.TRef.toBuf, StableHlo.TRef.ofBuf, cast_eq]
  rfl

/-- and the width table padded; -/
theorem entry_width (c : Dev nD) : V1 m ρ c main_call0_v6 = padded (m ((c : Thread nD τ).loc main_arg3)) := by
  show StableHlo.after hostOps0 _ (Proc.devRef .tc main_call0_v6) = _
  after_results_simp
  simp only [StableHlo.TRef.ofBuf_toBuf]
  simp only [StableHlo.TRef.toBuf, StableHlo.TRef.ofBuf, cast_eq]
  rfl

/-- the second call finds the spreading matrix, -/
theorem entry_spread (c : Dev nD) : V3 m ρ c main_call0_v20 = spread := by
  show StableHlo.after hostOps1 _ (Proc.devRef .tc main_call0_v20) = _
  after_results_simp
  simp only [StableHlo.TRef.ofBuf_toBuf]
  simp only [StableHlo.TRef.toBuf, StableHlo.TRef.ofBuf, cast_eq]
  rfl

/-- the attention scores, -/
theorem entry_attn (c : Dev nD) : V3 m ρ c main_arg1 = m ((c : Thread nD τ).loc main_arg1) :=
  W3_args m ρ c main_arg1 (by decide)

/-- and the two arrays that the first call left. -/
theorem entry_left_height (c : Dev nD) : V3 m ρ c main_call0_v7_0 = (dat0 (V1 m ρ) c).arrAt 4 cfg0.N :=
  (W3_of m ρ c main_call0_v7_0 (by decide)).trans (W2_arr m ρ c 4)

/-- Likewise the second of them. -/
theorem entry_left_width (c : Dev nD) : V3 m ρ c main_call0_v7_1 = (dat0 (V1 m ρ) c).arrAt 5 cfg0.N :=
  (W3_of m ρ c main_call0_v7_1 (by decide)).trans (W2_arr m ρ c 5)

end Cert.KernelIdeal.Tables

end
-- ==== Proof.RefValue.lean ====
/-
  The reference's result at an index.
-/
module

public import proofs.«01_k».proof.Proof.Gen.ReferenceIdeal.Read
public import Idealize.ShloMosaic.Lib.Pointwise
public import Idealize.ShloMosaic.Lib.Routing.OpsSet
public import Idealize.ShloMosaic.Lib.Pipeline.ValueKit

@[expose] public section

set_option maxRecDepth 16384

noncomputable section

namespace Cert.ReferenceIdeal.AtIndex

open Idealize.ShloMosaic Cert.ReferenceIdeal Cert.ReferenceIdeal.Read

/-- The queries' first half at an index of the image's grid. -/
theorem first_half (x0 : FVec Ideal S8x1024x8x64 .f32) (b : Fin 8) (h w : Fin 32) (g : Fin 8) (k : Fin 32) :
    val_main_v32 (F := Ideal) x0 (ix5 b h w g k) = x0 (ix4 b ⟨h.val * 32 + w.val, by omega⟩ g ⟨k.val, by omega⟩) := by
  pointwise [val_main_v32, val_main_v31, val_main_v30]

/-- The queries' second half at an index of the image's grid. -/
theorem second_half (x0 : FVec Ideal S8x1024x8x64 .f32) (b : Fin 8) (h w : Fin 32) (g : Fin 8) (k : Fin 32) :
    val_main_v36 (F := Ideal) x0 (ix5 b h w g k) = x0 (ix4 b ⟨h.val * 32 + w.val, by omega⟩ g ⟨32 + k.val, by omega⟩) := by
  pointwise [val_main_v36, val_main_v35, val_main_v30]

/-- The word arithmetic of a row number: a coordinate less another, raised by 31, is not negative, so the wrapping of
    negative numbers by 63 leaves it. -/
theorem word (i j : Fin 32) :
    Scalar.select (IntOp.cmpi .slt (IntOp.addi (IntOp.subi (BitVec.ofNat 32 j.val) (BitVec.ofNat 32 i.val)) 31#32) 0#32)
      (IntOp.addi (IntOp.addi (IntOp.subi (BitVec.ofNat 32 j.val) (BitVec.ofNat 32 i.val)) 31#32) 63#32)
      (IntOp.addi (IntOp.subi (BitVec.ofNat 32 j.val) (BitVec.ofNat 32 i.val)) 31#32) = BitVec.ofNat 32 (j.val + 31 - i.val) := by
  revert i j
  decide +kernel

/-- The row numbers that the first table is read by. -/
theorem height_word (i j : Fin 32) : val_main_v13 (F := Ideal) (ix3 i j 0) = BitVec.ofNat 32 (j.val + 31 - i.val) := by
  pointwise [val_main_v13, val_main_v12, val_main_v11, val_main_v10, val_main_v9, val_main_v8, val_main_v7, val_main_v6,
    val_main_v5, val_main_v4, val_main_v3, val_main_v2, val_main_v1, val_main_v0, val_main_c, val_main_c_0, val_main_c_1]
  exact word i j

/-- The row numbers that the second table is read by. -/
theorem width_word (i j : Fin 32) : val_main_v28 (F := Ideal) (ix3 i j 0) = BitVec.ofNat 32 (j.val + 31 - i.val) := by
  pointwise [val_main_v28, val_main_v27, val_main_v26, val_main_v25, val_main_v24, val_main_v23, val_main_v22, val_main_v21,
    val_main_v20, val_main_v19, val_main_v18, val_main_v17, val_main_v16, val_main_v15, val_main_c_2, val_main_c_3, val_main_c_4]
  exact word i j

/-- A table read by row numbers that lie inside it: each entry is the numbered row's. -/
theorem rows_read (x : FVec Ideal S63x32 .f32) (idx : IVec S32x32x1 32) (i j k : Fin 32) (r : Fin 63)
    (hr : idx (ix3 i j 0) = BitVec.ofNat 32 r.val) :
    Host.gather gather_S63x32_S32x32x1_S32x32x32_2_0_n_n_0_2_132 x idx (ix3 i j k) = x (ix2 r k) := by
  have hat : ∀ c, gather_S63x32_S32x32x1_S32x32x32_2_0_n_n_0_2_132.siIdx (ix3 i j k) c = ix3 i j 0 := by
    intro c
    funext b
    refine Fin.ext ?_
    match b with
    | ⟨0, _⟩ => rfl
    | ⟨1, _⟩ => rfl
    | ⟨2, _⟩ =>
      have := c.isLt
      show c.val = 0
      exact Nat.lt_one_iff.mp this
  refine congrArg x (funext fun a => Fin.ext ?_)
  match a with
  | ⟨0, _⟩ =>
    show min (idx (gather_S63x32_S32x32x1_S32x32x32_2_0_n_n_0_2_132.siIdx (ix3 i j k) _)).toInt.toNat (63 - 1) + 0 + 0 = r.val
    rw [hat, hr, StableHlo.Predicate.toInt_ofNat_small _ (by omega)]
    omega
  | ⟨1, _⟩ =>
    show 0 + 0 + k.val = k.val
    omega

/-- The first table's rows by the grid's rows: where the key lies at row `j` and the query at row `i`, row `j + 31 - i`. -/
theorem height_rows (x : FVec Ideal S63x32 .f32) (i j k : Fin 32) :
    val_main_v14 (F := Ideal) x (ix3 i j k) = x (ix2 ⟨j.val + 31 - i.val, by omega⟩ k) :=
  rows_read x _ i j k ⟨j.val + 31 - i.val, by omega⟩ (height_word i j)

/-- The second table's rows by the grid's columns. -/
theorem width_rows (x : FVec Ideal S63x32 .f32) (i j k : Fin 32) :
    val_main_v29 (F := Ideal) x (ix3 i j k) = x (ix2 ⟨j.val + 31 - i.val, by omega⟩ k) :=
  rows_read x _ i j k ⟨j.val + 31 - i.val, by omega⟩ (width_word i j)

/-- The reference's result at an index: the attention's entry, with the query's first half against the first table's row for
    the two positions' rows, and its second half against the second table's row for their columns. -/
theorem result (x0 : FVec Ideal S8x1024x8x64 .f32) (x1 : FVec Ideal S8x1024x8x1024 .f32) (x2 x3 : FVec Ideal S63x32 .f32)
    (b : Fin 8) (n : Fin 1024) (g : Fin 8) (j : Fin 1024) :
    val_main_v46 (F := Ideal) x0 x1 x2 x3 (ix4 b n g j)
      = (x1 (ix4 b n g j) + ∑ k : Fin 32, x2 (ix2 ⟨j.val / 32 + 31 - n.val / 32, by omega⟩ k) * x0 (ix4 b n g ⟨k.val, by omega⟩))
        + ∑ k : Fin 32, x3 (ix2 ⟨j.val % 32 + 31 - n.val % 32, by omega⟩ k) * x0 (ix4 b n g ⟨32 + k.val, by omega⟩) := by
  have hn : (⟨n.val / 32 * 32 + n.val % 32, by omega⟩ : Fin 1024) = n := Fin.ext (by show n.val / 32 * 32 + n.val % 32 = n.val; omega)
  pointwise [val_main_v46, val_main_v45, val_main_v44, val_main_v43, val_main_v42, val_main_v41, val_main_v40, val_main_v39,
    val_main_v38, val_main_v37, val_main_v34, val_main_v33]
  refine congrArg₂ (· + ·) (congrArg (x1 (ix4 b n g j) + ·) (Finset.sum_congr rfl fun k _ => ?_)) (Finset.sum_congr rfl fun k _ => ?_)
  · refine congrArg₂ (· * ·) (height_rows x2 ⟨n.val / 32, by omega⟩ ⟨j.val / 32, by omega⟩ k) ?_
    exact (first_half x0 b ⟨n.val / 32, by omega⟩ ⟨n.val % 32, by omega⟩ g k).trans
      (congrArg (fun p => x0 (ix4 b p g ⟨k.val, by omega⟩)) hn)
  · refine congrArg₂ (· * ·) (width_rows x3 ⟨n.val % 32, by omega⟩ ⟨j.val % 32, by omega⟩ k) ?_
    exact (second_half x0 b ⟨n.val / 32, by omega⟩ ⟨n.val % 32, by omega⟩ g k).trans
      (congrArg (fun p => x0 (ix4 b p g ⟨32 + k.val, by omega⟩)) hn)

end Cert.ReferenceIdeal.AtIndex

end
-- ==== Proof.Equation.lean ====
/-
  The kernel's result and the reference's are one function of the arguments.
-/
module

public import proofs.«01_k».proof.Proof.Add
public import proofs.«01_k».proof.Proof.Logits
public import proofs.«01_k».proof.Proof.Tables
public import proofs.«01_k».proof.Proof.RefValue

@[expose] public section

set_option maxRecDepth 16384

noncomputable section

namespace Cert.Equation

open Idealize.ShloMosaic Idealize.ShloMosaic.TcCoe
open Cert.KernelIdeal Cert.KernelIdeal.Gen Cert.KernelIdeal.Logits Cert.KernelIdeal.Add Cert.KernelIdeal.Tables

/-- The queries laid out over the image's grid. -/
def grid (x0 : FVec Ideal S8x1024x8x64 .f32) : FVec Ideal S8x32x32x8x64 .f32 :=
  shapeCast S8x32x32x8x64 x0 shapeCasts_S8x1024x8x64_S8x32x32x8x64

/-- A query's entry in the grid is its entry at the position that the grid's row and column number. -/
theorem grid_apply (x0 : FVec Ideal S8x1024x8x64 .f32) (b : Fin 8) (h w : Fin 32) (g : Fin 8) (k : Fin 64) (n : Fin 1024)
    (hn : h.val * 32 + w.val = n.val) : grid x0 (ix5 b h w g k) = x0 (ix4 b n g k) := by
  obtain ⟨n, hlt⟩ := n
  obtain rfl : h.val * 32 + w.val = n := hn
  pointwise [grid]

/-- The bias by rows at a query and one of the image's rows: the query's first half against the first table's row for them. -/
theorem heights_apply (x0 : FVec Ideal S8x1024x8x64 .f32) (x2 : FVec Ideal S63x32 .f32) (b : Fin 8) (n : Fin 1024) (g : Fin 8)
    (l : Fin 128) (hl : l.val < 32) :
    heights (grid x0) (padded x2) (ix4 b ⟨n.val / 32, by omega⟩ ⟨n.val % 32 * 8 + g.val, by omega⟩ l)
      = ∑ k : Fin 32, x2 (ix2 ⟨l.val + 31 - n.val / 32, by omega⟩ k) * x0 (ix4 b n g ⟨k.val, by omega⟩) := by
  refine (dif_pos hl).trans (Finset.sum_congr rfl fun k _ => ?_)
  rw [mul_comm]
  refine congrArg₂ (· * ·) ?_ ?_
  · refine (congrArg (fun r => padded x2 (ix2 r k)) (Fin.ext ?_)).trans (padded_row x2 ⟨l.val + 31 - n.val / 32, by omega⟩ k)
    show 31 - n.val / 32 + l.val = l.val + 31 - n.val / 32
    omega
  · refine (congrArg₂ (fun w e => grid x0 (ix5 b ⟨n.val / 32, by omega⟩ w e ⟨k.val, by omega⟩))
      (Fin.ext (a := _) (b := ⟨n.val % 32, by omega⟩) ?_) (Fin.ext (a := _) (b := g) ?_)).trans
      (grid_apply x0 b ⟨n.val / 32, by omega⟩ ⟨n.val % 32, by omega⟩ g ⟨k.val, by omega⟩ n ?_)
    · show (n.val % 32 * 8 + g.val) / 8 = n.val % 32
      omega
    · show (n.val % 32 * 8 + g.val) % 8 = g.val
      omega
    · show n.val / 32 * 32 + n.val % 32 = n.val
      omega

/-- The bias by columns at a query and a lane: the query's second half against the second table's row for its column and the
    lane's. -/
theorem widths_apply (x0 : FVec Ideal S8x1024x8x64 .f32) (x3 : FVec Ideal S63x32 .f32) (b : Fin 8) (n : Fin 1024) (g : Fin 8)
    (l : Fin 128) :
    widths (grid x0) (padded x3) (ix4 b ⟨n.val / 32, by omega⟩ ⟨n.val % 32 * 8 + g.val, by omega⟩ l)
      = ∑ k : Fin 32, x3 (ix2 ⟨l.val % 32 + 31 - n.val % 32, by omega⟩ k) * x0 (ix4 b n g ⟨32 + k.val, by omega⟩) := by
  refine Finset.sum_congr rfl fun k _ => ?_
  rw [mul_comm]
  refine congrArg₂ (· * ·) ?_ ?_
  · refine (congrArg (fun r => padded x3 (ix2 r k)) (Fin.ext ?_)).trans (padded_row x3 ⟨l.val % 32 + 31 - n.val % 32, by omega⟩ k)
    show 31 - (n.val % 32 * 8 + g.val) / 8 + l.val % 32 = l.val % 32 + 31 - n.val % 32
    omega
  · refine (congrArg₂ (fun w e => grid x0 (ix5 b ⟨n.val / 32, by omega⟩ w e ⟨32 + k.val, by omega⟩))
      (Fin.ext (a := _) (b := ⟨n.val % 32, by omega⟩) ?_) (Fin.ext (a := _) (b := g) ?_)).trans
      (grid_apply x0 b ⟨n.val / 32, by omega⟩ ⟨n.val % 32, by omega⟩ g ⟨32 + k.val, by omega⟩ n ?_)
    · show (n.val % 32 * 8 + g.val) / 8 = n.val % 32
      omega
    · show (n.val % 32 * 8 + g.val) % 8 = g.val
      omega
    · show n.val / 32 * 32 + n.val % 32 = n.val
      omega

/-- A row of logits times the matrix that spreads each lane over 32 columns is, at a column, the logit of that column's lane. -/
theorem spread_sum (f : Fin 128 → EReal) (j : Fin 1024) :
    ∑ l : Fin 128, f l * spread (ix2 l j) = f ⟨j.val / 32, by omega⟩ := by
  rw [Finset.sum_eq_single (⟨j.val / 32, by omega⟩ : Fin 128)]
  · rw [spread_apply, if_pos rfl, mul_one]
  · intro l _ hl
    rw [spread_apply, if_neg (fun h => hl (Fin.ext h.symm)), mul_zero]
  · intro h
    exact absurd (Finset.mem_univ _) h

/-- The kernel's result, from the arguments alone. -/
def value (x0 : FVec Ideal S8x1024x8x64 .f32) (x1 : FVec Ideal S8x1024x8x1024 .f32) (x2 x3 : FVec Ideal S63x32 .f32) :
    FVec Ideal S8x1024x8x1024 .f32 :=
  added x1 (heights (grid x0) (padded x2)) (widths (grid x0) (padded x3)) spread

/-- The two results agree at every index. -/
theorem at_index (x0 : FVec Ideal S8x1024x8x64 .f32) (x1 : FVec Ideal S8x1024x8x1024 .f32) (x2 x3 : FVec Ideal S63x32 .f32)
    (b : Fin 8) (n : Fin 1024) (g : Fin 8) (j : Fin 1024) :
    value x0 x1 x2 x3 (ix4 b n g j) = Cert.ReferenceIdeal.Read.val_main_v46 (F := Ideal) x0 x1 x2 x3 (ix4 b n g j) := by
  refine Eq.trans ?_ (Cert.ReferenceIdeal.AtIndex.result x0 x1 x2 x3 b n g j).symm
  refine Eq.trans ?_ (add_assoc _ _ _).symm
  refine congrArg (x1 (ix4 b n g j) + ·) (congrArg₂ (· + ·) ?_ ?_)
  · exact (spread_sum (fun l => heights (grid x0) (padded x2) (ix4 b ⟨n.val / 32, by omega⟩ ⟨n.val % 32 * 8 + g.val, by omega⟩ l)) j).trans
      (heights_apply x0 x2 b n g ⟨j.val / 32, by omega⟩ (by show j.val / 32 < 32; omega))
  · refine (widths_apply x0 x3 b n g ⟨j.val % 128, by omega⟩).trans (Finset.sum_congr rfl fun k _ => ?_)
    refine congrArg (fun r => x3 (ix2 r k) * x0 (ix4 b n g ⟨32 + k.val, by omega⟩)) (Fin.ext ?_)
    show j.val % 128 % 32 + 31 - n.val % 32 = j.val % 32 + 31 - n.val % 32
    omega

/-- The two results are one array. -/
theorem agree (x0 : FVec Ideal S8x1024x8x64 .f32) (x1 : FVec Ideal S8x1024x8x1024 .f32) (x2 x3 : FVec Ideal S63x32 .f32) :
    value x0 x1 x2 x3 = Cert.ReferenceIdeal.Read.val_main_v46 (F := Ideal) x0 x1 x2 x3 := by
  funext y
  have hy : y = ix4 (y 0) (y 1) (y 2) (y 3) := by
    funext a
    match a with
    | ⟨0, _⟩ => rfl
    | ⟨1, _⟩ => rfl
    | ⟨2, _⟩ => rfl
    | ⟨3, _⟩ => rfl
  rw [hy]
  exact at_index x0 x1 x2 x3 (y 0) (y 1) (y 2) (y 3)

/-- The kernel's result, in its launches' own terms, is the function of the arguments above. -/
theorem kernel_value (m : (ℓ : Loc nD τ sig) → Buf (Elt Ideal) ℓ) (ρ : Dev nD → PrngReg) (c : Dev nD) :
    (dat1 (V3 m ρ) c).arrAt 4 cfg1.N
      = value (m ((c : Thread nD τ).loc main_arg0)) (m ((c : Thread nD τ).loc main_arg1)) (m ((c : Thread nD τ).loc main_arg2)) (m ((c : Thread nD τ).loc main_arg3)) := by
  rw [final_add, entry_attn, entry_spread, entry_left_height, entry_left_width, final_height, final_width, entry_q, entry_height,
    entry_width]
  rfl

end Cert.Equation

end
-- ==== Proof.lean ====
/-
  The certificate of the relative-position-bias kernel: that it ends, faulting nowhere, with its arguments as they were and
  every semaphore counter at zero, in both readings of its arithmetic and in the reference's; and that, in exact arithmetic, its
  result is the reference's, entry for entry, for all arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.Gen.ReferenceIdeal.Read
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference ends with its arguments as they were, and with every counter at zero because it declares no semaphore. -/
theorem reference_frame : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- In exact arithmetic the kernel and the reference, run from memories that agree on the four arguments, end with the same
    result, an extended real at every index, and with their arguments as they were. -/
theorem algebraic : Cert.algebraic_KernelIdeal_ReferenceIdeal := by
  intro m g m' g' _ hagree
  refine ⟨fun c => Cert.Equation.value (m ((c.tc : Thread _ Cert.KernelIdeal.τ).loc Cert.KernelIdeal.main_arg0))
    (m ((c.tc : Thread _ Cert.KernelIdeal.τ).loc Cert.KernelIdeal.main_arg1))
    (m ((c.tc : Thread _ Cert.KernelIdeal.τ).loc Cert.KernelIdeal.main_arg2))
    (m ((c.tc : Thread _ Cert.KernelIdeal.τ).loc Cert.KernelIdeal.main_arg3)), ?_, ?_⟩
  · exact (θ_run Cert.KernelIdeal.defs _ _).mono
      (fun r h c => ⟨(h c).1.trans (Cert.Equation.kernel_value m g c), (h c).2⟩)
      (Cert.KernelIdeal.Result.run (F := Ideal) m g)
  · refine (θ_run Cert.ReferenceIdeal.defs _ _).mono (fun r h c => ⟨(h c).1.trans ?_, (h c).2⟩)
      (Cert.ReferenceIdeal.Value.run (F := Ideal) m' g')
    rw [(hagree c).1, (hagree c).2.1, (hagree c).2.2.1, (hagree c).2.2.2, Cert.ReferenceIdeal.Read.val_main_v46_eq]
    exact (Cert.Equation.agree _ _ _ _).symm

/-- Every claim, with the witnesses of the shape facts that the three programs state. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
